-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x25x17 : Shape := ⟨3, ![1, 25, 17]⟩
abbrev S_ : Shape := ⟨0, ![]⟩
abbrev S425 : Shape := ⟨1, ![425]⟩
abbrev S1 : Shape := ⟨1, ![1]⟩

abbrev nBuf : Table → Nat
  | .hbm => 6
  | .local .scScalar .smem => 2
  | _ => 0

abbrev bufTy : (tb : Table) → Fin (nBuf tb) → BufTy
  | .hbm, ⟨0, _⟩ => ⟨S1x25x17, .f32⟩
  | .hbm, ⟨1, _⟩ => ⟨S_, .i32⟩
  | .hbm, ⟨2, _⟩ => ⟨S_, .i32⟩
  | .hbm, ⟨3, _⟩ => ⟨S425, .f32⟩
  | .hbm, ⟨4, _⟩ => ⟨S425, .f32⟩
  | .hbm, ⟨5, _⟩ => ⟨S1x25x17, .f32⟩
  | .local .scScalar .smem, ⟨0, _⟩ => ⟨S425, .f32⟩
  | .local .scScalar .smem, ⟨1, _⟩ => ⟨S425, .f32⟩
  | _, _ => ⟨S1x25x17, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scs : Ref sig .scScalar := ⟨.hbm, 3, rfl⟩
abbrev main_v1_scs : Ref sig .scScalar := ⟨.hbm, 4, rfl⟩
abbrev cc0_scratch0 : Ref sig .scScalar := ⟨.smem, 0, rfl⟩
abbrev cc0_scratch1 : Ref sig .scScalar := ⟨.smem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_0 : BitVec 32 := 0#32
  let c25_i32 : BitVec 32 := 25#32
  let v0 : BitVec 32 := Scalar.addi c0_i32_0 c25_i32
  let c1_i32 : BitVec 32 := 1#32
  ⟨c0_i32_0, v0, c1_i32⟩
def k0_off1 (k0_t1 : Fin k0_t1_loop.trips) : Fin 1 → Nat :=
  let c0_i32_0 : BitVec 32 := 0#32
  let c1_i32 : BitVec 32 := 1#32
  let arg5 : BitVec 32 := Scf.iv c0_i32_0 c1_i32 k0_t1
  let c17_i32 : BitVec 32 := 17#32
  let v1 : BitVec 32 := Scalar.muli arg5 c17_i32
  let v2 : Index := Scalar.indexCast v1
  ![v2.toNat]
def k0_off2 (k0_t1 : Fin k0_t1_loop.trips) (c1_i32_2 : BitVec 32) : Fin 1 → Nat :=
  let c0_i32_0 : BitVec 32 := 0#32
  let c1_i32 : BitVec 32 := 1#32
  let arg5 : BitVec 32 := Scf.iv c0_i32_0 c1_i32 k0_t1
  let c17_i32 : BitVec 32 := 17#32
  let v1 : BitVec 32 := Scalar.muli arg5 c17_i32
  let v4 : BitVec 32 := Scalar.addi v1 c1_i32_2
  let v5 : Index := Scalar.indexCast v4
  ![v5.toNat]
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S1x25x17 : Shape := ⟨3, ![1, 25, 17]⟩
abbrev S_ : Shape := ⟨0, ![]⟩
abbrev S1x25 : Shape := ⟨2, ![1, 25]⟩
abbrev S1x25x1 : Shape := ⟨3, ![1, 25, 1]⟩
abbrev S1x1x17 : Shape := ⟨3, ![1, 1, 17]⟩

abbrev nBuf : Space → Nat
  | .hbm => 16
  | .vmem => 0
  | .smem => 0
  | _ => 0

abbrev bufTy : (tb : Table) → Fin (tcTables nBuf tb) → BufTy
  | .hbm, ⟨0, _⟩ => ⟨S1x25x17, .f32⟩
  | .hbm, ⟨1, _⟩ => ⟨S_, .i32⟩
  | .hbm, ⟨2, _⟩ => ⟨S_, .i32⟩
  | .hbm, ⟨3, _⟩ => ⟨S1x25x17, .i32⟩
  | .hbm, ⟨4, _⟩ => ⟨S_, .f32⟩
  | .hbm, ⟨5, _⟩ => ⟨S_, .i32⟩
  | .hbm, ⟨6, _⟩ => ⟨S1x25, .f32⟩
  | .hbm, ⟨7, _⟩ => ⟨S1x25, .i32⟩
  | .hbm, ⟨8, _⟩ => ⟨S1x25x1, .i32⟩
  | .hbm, ⟨9, _⟩ => ⟨S1x1x17, .i32⟩
  | .hbm, ⟨10, _⟩ => ⟨S1x25x17, .i32⟩
  | .hbm, ⟨11, _⟩ => ⟨S1x25x17, .i32⟩
  | .hbm, ⟨12, _⟩ => ⟨S1x25x17, .i1⟩
  | .hbm, ⟨13, _⟩ => ⟨S1x25x17, .f32⟩
  | .hbm, ⟨14, _⟩ => ⟨S1x25x17, .f32⟩
  | .hbm, ⟨15, _⟩ => ⟨S1x25x17, .f32⟩
  | _, _ => ⟨S1x25x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_c : Ref sig .tc := ⟨.hbm, 5, rfl⟩
abbrev main_call0_v1_0 : Ref sig .tc := ⟨.hbm, 6, rfl⟩
abbrev main_v0 : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩

abbrev nD : Nat := 1
abbrev τ : Topo := Topo.v7x

variable {F : FTy → Type} [FloatOps F]
-- ==== Proof.Row.lean ====
/-
  What one row of the kernel computes, over any float values. A row is a sequence of seventeen numbers. The kernel
  walks it once, keeping the greatest number met so far and the place it was met at, and then writes, at each
  place, the one-hot number of that place less the input plus the input.
-/
module

public import proofs.«01_k».proof.KernelIdeal

@[expose] public section

noncomputable section

namespace Cert.Proof

open Idealize.ShloMosaic Cert.KernelIdeal

variable {F : FTy → Type} [FloatOps F]

/-- The greatest of the numbers at places `0` to `n`, a later number taking over only where it is strictly greater. -/
def best (a : ℕ → F .f32) : ℕ → F .f32
  | 0 => a 0
  | n + 1 => Scalar.select (Scalar.cmpf .ogt (a (n + 1)) (best a n)) (a (n + 1)) (best a n)

/-- The place, as a word, where `best` was met. -/
def place (a : ℕ → F .f32) : ℕ → BitVec 32
  | 0 => 0#32
  | n + 1 => Scalar.select (Scalar.cmpf .ogt (a (n + 1)) (best a n)) (BitVec.ofNat 32 (n + 1)) (place a n)

/-- One output: one where the word `w` names place `j`, else zero, less the input `v`, plus the input. -/
def mark (w : BitVec 32) (j : ℕ) (v : F .f32) : F .f32 :=
  Scalar.addf (Scalar.subf
    (Scalar.select (Scalar.cmpi .eq w (BitVec.ofNat 32 j)) (Scalar.ofBits .f32 0x3F800000#32) (Scalar.ofBits .f32 0x00000000#32)) v) v

/-- A row's output at place `j`. -/
def rowOut (a : ℕ → F .f32) (j : ℕ) : F .f32 := mark (place a 16) j (a j)

/-- The greatest number depends on the numbers walked alone, -/
theorem best_congr {a b : ℕ → F .f32} {n : ℕ} (h : ∀ j ≤ n, a j = b j) : best a n = best b n := by
  induction n with
  | zero => exact h 0 le_rfl
  | succ n ih =>
    unfold best
    rw [ih fun j hj => h j (hj.trans n.le_succ), h (n + 1) le_rfl]

/-- and so does its place. -/
theorem place_congr {a b : ℕ → F .f32} {n : ℕ} (h : ∀ j ≤ n, a j = b j) : place a n = place b n := by
  induction n with
  | zero => rfl
  | succ n ih =>
    unfold place
    rw [ih fun j hj => h j (hj.trans n.le_succ), best_congr fun j hj => h j (hj.trans n.le_succ), h (n + 1) le_rfl]

/-- The index of word `n` of the flat array (wrapped around past its end, which no use reaches). -/
def word (n : ℕ) : S425.Idx := fun a => ⟨n % S425.size a, Nat.mod_lt _ (by fin_cases a; decide)⟩

/-- Row `r` of the flat array. -/
def row (x : S425.Idx → F .f32) (r : ℕ) : ℕ → F .f32 := fun j => x (word (17 * r + j))

/-- The flat array the kernel leaves, from the flat array it reads: each row's outputs in place. -/
def flatOut (x : S425.Idx → F .f32) : S425.Idx → F .f32 := fun i => rowOut (row x ((i 0).val / 17)) ((i 0).val % 17)

omit [FloatOps F] in
/-- A flat index is the word its coordinate names. -/
theorem word_val (i : S425.Idx) : word (i 0).val = i := by
  funext a
  match a with
  | ⟨0, _⟩ => exact Fin.ext (Nat.mod_eq_of_lt (i 0).isLt)

/-- The flat output at word `17 r + j` is row `r`'s output at place `j`. -/
theorem flatOut_word (x : S425.Idx → F .f32) {r j : ℕ} (hr : r < 25) (hj : j < 17) :
    flatOut x (word (17 * r + j)) = rowOut (row x r) j := by
  have h : ((word (17 * r + j)) 0).val = 17 * r + j := Nat.mod_eq_of_lt (show 17 * r + j < 425 by omega)
  unfold flatOut
  rw [h, show (17 * r + j) / 17 = r by omega, show (17 * r + j) % 17 = j by omega]

end Cert.Proof

end
-- ==== Proof.Pays.lean ====
/-
  The words the loop's trip stores, as the program spells them, are the row's outputs.
-/
module

public import proofs.«01_k».proof.Proof.Gen.KernelIdeal.Skeleton
public import proofs.«01_k».proof.Proof.Row

@[expose] public section

noncomputable section

namespace Cert.Proof

open Idealize.ShloMosaic Cert.KernelIdeal Cert.KernelIdeal.Gen

variable {F : FTy → Type} [FloatOps F]

/-- The running best after place 7, as the program carries it. -/
theorem best_seven (a : ℕ → F .f32) : k0_pay10 (a 0) (a 1) (a 2) (a 3) (a 4) (a 5) (a 6) (a 7) = best a 7 := rfl

/-- The running best after place 14, from that after place 7. -/
theorem best_fourteen (a : ℕ → F .f32) :
    k0_pay17 (best a 7) (a 8) (a 9) (a 10) (a 11) (a 12) (a 13) (a 14) = best a 14 := rfl

end Cert.Proof

end
-- ==== Proof.Body.lean ====
/-
  The kernel's body on SparseCore 0's sequencer, over any float values: the array in from HBM, the loop over the
  twenty-five rows, the outputs back to HBM.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.CellWrites
public import proofs.«01_k».proof.Proof.Gen.KernelIdeal
public import proofs.«01_k».proof.Proof.Gen.KernelIdeal.Skeleton
public import proofs.«01_k».proof.Proof.Row
public import proofs.«01_k».proof.Proof.Pays

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's resources: the handshakes' rounds beside the transfers' counters. -/
abbrev UH : Type := URounds (GSem nD τ sig) ℕ
abbrev UU : Type := UH × Counters

local notation "𝕄" => MT nD τ sig (HIx 1) (Elt F) ℕ UU ℕ

/-- The kernel's operands as the body table passes them: the flat input and result in HBM, -/
abbrev xW : Memref sig .scScalar .hbm S425 .f32 := Memref.whole main_v0_scs
abbrev oW : Memref sig .scScalar .hbm S425 .f32 := Memref.whole main_v1_scs
/-- and their copies in the sequencer's scalar memory. -/
abbrev inW : Memref sig .scScalar .smem S425 .f32 := Memref.whole cc0_scratch0
abbrev outW : Memref sig .scScalar .smem S425 .f32 := Memref.whole cc0_scratch1

section Body

variable (d : Dev nD)

/-- The grid's one point. -/
def coordsS (c : Fin (grid0.bound 0)) : grid0.Coords := fun | 0 => c | ⟨_ + 1, h⟩ => absurd h (Nat.not_lt.2 (Nat.le_add_left _ _))

/-- SparseCore 0's sequencer thread. -/
abbrev S0 (h : 0 < grid0.bound 0) : Thread nD τ := S d ((⟨0, h⟩ : Fin (grid0.bound 0)).castLE hcore0)

/-- The two DMA cells the body names, the load's and the store's. -/
abbrev ldC : SemLoc sig := .dma ⟨0, by decide⟩
abbrev stC : SemLoc sig := .dma ⟨1, by decide⟩

/-! ### The loop's loads and stores, cell by cell -/

/-- A load of one word of the scalar memory's input reads that word. -/
theorem load_word (x : S425.Idx → F .f32) {off : Fin 1 → ℕ} (n : ℕ) (ho : off = ![n]) (hn : n < 425)
    (inb : ∀ a, off a + S1.size a ≤ S425.size a) (he) :
    View.readAt (Elt F) inW.view (Rect.unit (s := S425) off S1.size inb).toLoadRect x (Shape.Idx.first he) = x (word n) := by
  subst ho
  rw [View.readAt_apply]
  refine congrArg x (funext fun a => Fin.ext ?_)
  match a with
  | ⟨0, _⟩ => exact (show n + 1 * 0 = n by omega).trans (Nat.mod_eq_of_lt hn).symm

/-- Trip `k`'s first load is its row's number at place 0. -/
theorem load_first (x : S425.Idx → F .f32) (k : Fin k0_t1_loop.trips) (inb) (he) :
    View.readAt (Elt F) inW.view (Rect.unit (s := S425) (k0_off1 k) S1.size inb).toLoadRect x (Shape.Idx.first he) = row x k.val 0 :=
  load_word x _ (k0_off1_eq k) (by have := k.isLt.trans_le k0_t1_abs.2.1; omega) inb he

/-- Trip `k`'s load at place `j` is its row's number there. -/
theorem load_place (x : S425.Idx → F .f32) (k : Fin k0_t1_loop.trips) {j : ℕ} (hj : j < 17) (inb) (he) :
    View.readAt (Elt F) inW.view (Rect.unit (s := S425) (k0_off2 k (BitVec.ofNat 32 j)) S1.size inb).toLoadRect x (Shape.Idx.first he)
      = row x k.val j :=
  load_word x _ (k0_off2_eq k ⟨j, hj⟩) (by have := k.isLt.trans_le k0_t1_abs.2.1; show 17 * k.val + j < 425; omega) inb he

variable [FloatOps F]

/-- Trip `k`'s store of its row's output at place `j`: a word reads its output where it does so or is the word stored. -/
theorem store_place (x g : S425.Idx → F .f32) (k : Fin k0_t1_loop.trips) {j : ℕ} (hj : j < 17) (inb) {p : Elt F .f32}
    {L : List (View.Piece (Elt F) S425 .f32)} {n : ℕ} (hn : n < 425) (hp : p = rowOut (row x k.val) j)
    (hL : n ≠ 17 * k.val + j → outW.view.writes (Elt F) g L (word n) = flatOut x (word n)) :
    outW.view.writes (Elt F) g (⟨Rect.unit (s := S425) (k0_off2 k (BitVec.ofNat 32 j)) S1.size inb, fun _ => p⟩ :: L) (word n)
      = flatOut x (word n) := by
  have h := View.read_writes_cons_cell (v := outW.view) (f := g) (d := S425.size) inb p L (word n)
  rw [show ((word n) 0).val = n from Nat.mod_eq_of_lt hn,
    show k0_off2 k (BitVec.ofNat 32 j) 0 = 17 * k.val + j from congrFun (k0_off2_eq k ⟨j, hj⟩) 0] at h
  refine Eq.trans h ?_
  split_ifs with hc
  · rw [hp, hc, flatOut_word x (k.isLt.trans_le k0_t1_abs.2.1) hj]
  · exact hL hc

/-- Before trip `k`: the flat input whole in HBM and in the scalar memory, the result at anything, the outputs of the
    rows before `k` in place, both cells at zero. -/
def inv (h : 0 < grid0.bound 0) (x : S425.Idx → F .f32) (O : CellTallies nD τ sig (HIx 1)) (k : Nat) (_ : PUnit) : sProp 𝕄 :=
  iprop(Transfers.MayWaits (S0 d h) (none : HIx 1) O
    ∗ (xW.view.loc (S0 d h) ↦{fullShare} x)
    ∗ (∃ f, oW.view.loc (S0 d h) ↦{fullShare} f)
    ∗ (inW.view.loc (S0 d h) ↦{fullShare} x)
    ∗ (∃ g : S425.Idx → F .f32, ⌜∀ n, n < 17 * k → g (word n) = flatOut x (word n)⌝ ∗ outW.view.loc (S0 d h) ↦{fullShare} g)
    ∗ semVal (S0 d h, ldC) 0 ∗ semVal (S0 d h, stC) 0
    ∗ ∃ W', owes (S0 d h) O W')

/-- Trip `k` of the loop: its row's numbers loaded, its row's outputs stored. -/
theorem trip (h : 0 < grid0.bound 0) (x : S425.Idx → F .f32) (O : CellTallies nD τ sig (HIx 1)) (k : Fin k0_t1_loop.trips) (c : Unit) :
    inv d h x O k.val c
      ⊢ wp frame (wpE (defs₀ (F := F)) 𝒱₀ (S0 d h) none) Set.univ
          (k0_t1_body (coordsS ⟨0, h⟩) xW (Memref.isWhole_whole _) oW (Memref.isWhole_whole _)
            inW (Memref.isWhole_whole _) outW (Memref.isWhole_whole _) cc0_scoped0 cc0_scoped1 k c)
          fun c' => inv d h x O (k.val + 1) c' := by
  unfold inv k0_t1_body xW oW inW outW
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  iintro ⟨Hmw, Hx, ⟨%fo, Ho⟩, Hi, ⟨%g, %hg, Hs⟩, Hc0, Hc1, %W', HO⟩
  sl_exec
  sl_step
  have hk : k.val < 25 := k.isLt.trans_le k0_t1_abs.2.1
  isplitl [Hmw]; · iexact Hmw
  isplitl [Hx]; · iexact Hx
  isplitl [Ho]; · iexists fo; iexact Ho
  isplitl [Hi]; · iexact Hi
  isplitl [Hs]
  · iexists _; isplitr; swap; · iexact Hs
    ipureintro
    intro n hn
    have hn' : n < 425 := by omega
    -- the words the trip loaded are the row's numbers
    have hl := fun (j : ℕ) (hj : j < 17) => load_place x k hj
    have e0 : trip.sl.r x k = row x k.val 0 := load_first x k _ _
    have e1 : trip.sl.r_1 x k = row x k.val 1 := hl 1 (by decide) _ _
    have e2 : trip.sl.r_2 x k = row x k.val 2 := hl 2 (by decide) _ _
    have e3 : trip.sl.r_3 x k = row x k.val 3 := hl 3 (by decide) _ _
    have e4 : trip.sl.r_4 x k = row x k.val 4 := hl 4 (by decide) _ _
    have e5 : trip.sl.r_5 x k = row x k.val 5 := hl 5 (by decide) _ _
    have e6 : trip.sl.r_6 x k = row x k.val 6 := hl 6 (by decide) _ _
    have e7 : trip.sl.r_7 x k = row x k.val 7 := hl 7 (by decide) _ _
    have e8 : trip.sl.r_8 x k = row x k.val 8 := hl 8 (by decide) _ _
    have e9 : trip.sl.r_9 x k = row x k.val 9 := hl 9 (by decide) _ _
    have e10 : trip.sl.r_10 x k = row x k.val 10 := hl 10 (by decide) _ _
    have e11 : trip.sl.r_11 x k = row x k.val 11 := hl 11 (by decide) _ _
    have e12 : trip.sl.r_12 x k = row x k.val 12 := hl 12 (by decide) _ _
    have e13 : trip.sl.r_13 x k = row x k.val 13 := hl 13 (by decide) _ _
    have e14 : trip.sl.r_14 x k = row x k.val 14 := hl 14 (by decide) _ _
    have e15 : trip.sl.r_15 x k = row x k.val 15 := hl 15 (by decide) _ _
    have e16 : trip.sl.r_16 x k = row x k.val 16 := hl 16 (by decide) _ _
    have e17 : trip.sl.r_17 x k = row x k.val 0 := hl 0 (by decide) _ _
    -- the place it found is the row's
    have hv : trip.sl.v87 x k = place (row x k.val) 14 := by
      delta trip.sl.v87 trip.sl.v81 trip.sl.v75 trip.sl.v69 trip.sl.v63 trip.sl.v57 trip.sl.v51 trip.sl.v45 trip.sl.v39 trip.sl.v33 trip.sl.v27 trip.sl.v21 trip.sl.v15 trip.sl.v9
        trip.sl.v85 trip.sl.v79 trip.sl.v73 trip.sl.v67 trip.sl.v61 trip.sl.v55 trip.sl.v49 trip.sl.v43 trip.sl.v37 trip.sl.v31 trip.sl.v25 trip.sl.v19 trip.sl.v13 trip.sl.v7
      rw [e0, e1, e2, e3, e4, e5, e6, e7, e8, e9, e10, e11, e12, e13, e14]; rfl
    have hw : trip.sl.v99 x k = place (row x k.val) 16 := by
      delta trip.sl.v99 trip.sl.v97 trip.sl.v93 trip.sl.v91
      rw [hv, e0, e1, e2, e3, e4, e5, e6, e7, e8, e9, e10, e11, e12, e13, e14, e15, e16, best_seven, best_fourteen]; rfl
    have hc : trip.sl.v203 x k = Scalar.cmpi .eq (place (row x k.val) 16) 10#32 := congrArg (Scalar.cmpi .eq · 10#32) hw
    rw [hw, hv, hc, e0, e1, e2, e3, e4, e5, e6, e7, e8, e9, e10, e11, e12, e13, e14, e15, e16, e17, best_seven, best_fourteen]
    iterate 17 refine store_place x g k (by decide) _ hn' rfl (fun _ => ?_)
    exact hg n (by omega)
  isplitl [Hc0]; · iexact Hc0
  isplitl [Hc1]; · iexact Hc1
  iexists W'; iexact HO

/-- The body from the flat input, the result, the scratch and both cells at zero to the same with the result at the
    rows' outputs. -/
theorem seq_run (h : 0 < grid0.bound 0) (x : S425.Idx → F .f32) (O : CellTallies nD τ sig (HIx 1)) (W : Waits sig (HIx 1))
    (fo : Buf (Elt F) (oW.view.loc (S0 d h))) (f0 : Buf (Elt F) (inW.view.loc (S0 d h))) (f1 : Buf (Elt F) (outW.view.loc (S0 d h))) :
    (iprop(Transfers.MayWaits (S0 d h) (none : HIx 1) O
        ∗ (xW.view.loc (S0 d h) ↦{fullShare} x)
        ∗ (oW.view.loc (S0 d h) ↦{fullShare} fo)
        ∗ (inW.view.loc (S0 d h) ↦{fullShare} f0)
        ∗ (outW.view.loc (S0 d h) ↦{fullShare} f1)
        ∗ semVal (S0 d h, ldC) 0 ∗ semVal (S0 d h, stC) 0
        ∗ owes (S0 d h) O W) : sProp 𝕄)
      ⊢ wp frame (wpE (defs₀ (F := F)) 𝒱₀ (S0 d h) none) Set.univ
          (cc0__scs_body (coordsS ⟨0, h⟩) xW (Memref.isWhole_whole _) oW (Memref.isWhole_whole _)
            inW (Memref.isWhole_whole _) outW (Memref.isWhole_whole _) cc0_scoped0 cc0_scoped1)
          fun _ => iprop((xW.view.loc (S0 d h) ↦{fullShare} x)
            ∗ (oW.view.loc (S0 d h) ↦{fullShare} flatOut x)
            ∗ (∃ f, inW.view.loc (S0 d h) ↦{fullShare} f)
            ∗ (∃ f, outW.view.loc (S0 d h) ↦{fullShare} f)
            ∗ semVal (S0 d h, ldC) 0 ∗ semVal (S0 d h, stC) 0
            ∗ ∃ W', owes (S0 d h) O W') := by
  unfold xW oW inW outW
  iintro ⟨#Hmw, Hx, Ho, Hi, Hs, Hc0, Hc1, HO⟩
  rw [cc0__scs_body_eq_skeleton]
  unfold cc0__scs_body_skel
  sl_exec
  sl_for (inv d h x O) $$ [Hx Ho Hi Hs Hc0 Hc1 HO]
  case region => intro k c; exact trip d h x O k c
  · unfold inv
    isplitr; · iexact Hmw
    isplitl [Hx]; · iexact Hx
    isplitl [Ho]; · iexists fo; iexact Ho
    isplitl [Hi]
    · rw [show View.write (Elt F) inW.view f0 (seq_run.sl.dma0 x) Finset.univ = x from View.write_whole_univ _ _ _]
      iexact Hi
    isplitl [Hs]
    · iexists f1; isplitr; swap; · iexact Hs
      ipureintro; intro n hn; omega
    isplitl [Hc0]; · iexact Hc0
    isplitl [Hc1]; · iexact Hc1
    iexists _; iexact HO
  unfold inv
  iintro %_ ⟨-, Hx, ⟨%fo', Ho⟩, Hi, ⟨%g, %hg, Hs⟩, Hc0, Hc1, %W', HO⟩
  sl_exec
  sl_step
  have hdone : g = flatOut x := funext fun i => by
    have := hg (i 0).val ((i 0).isLt.trans_eq (show 425 = _ by decide))
    rwa [word_val] at this
  rw [show View.write (Elt F) oW.view fo' (seq_run.sl.dma0_1 g) Finset.univ = g from View.write_whole_univ _ _ _, hdone]
  isplitl [Hx]; · iexact Hx
  isplitl [Ho]; · iexact Ho
  isplitl [Hi]; · iexists x; iexact Hi
  isplitl [Hs]; · iexists _; iexact Hs
  isplitl [Hc0]; · iexact Hc0
  isplitl [Hc1]; · iexact Hc1
  iexists _; iexact HO

end Body

end Cert.Proof

end
-- ==== Proof.Launch.lean ====
/-
  The kernel's whole run, over any float values: the flat reshape of the input, the SparseCore call, the reshape of
  what it leaves; every semaphore back at zero, the arguments unchanged, the result the rows' outputs.
-/
module

public import proofs.«01_k».proof.Proof.Body

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

/-- The handshakes' rounds are the left factor of the launch's resources. -/
abbrev EH : Emb UH (MT nD τ sig (HIx 1) (Elt F) ℕ UU ℕ) := embL

/-- The launch semaphores are distinct and nobody's scratch. -/
theorem sc_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-! ## The TensorCore's arrays -/

/-- The six arrays of @main, as the machine's buffers and as device `d`'s. -/
abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev loc (d : Dev nD) (b : Ref sig .tc) : Loc nD τ sig := (SparseCore.T d).loc b

/-- @main's two reshapes. -/
abbrev opIn : HloOp τ sig (Elt F) := StableHlo.reshape main_arg0 main_v0 (rfl : (.f32 : EltTy) = .f32) shapeCasts_S1x25x17_S425
abbrev opOut : HloOp τ sig (Elt F) := StableHlo.reshape main_v1 main_v2 (rfl : (.f32 : EltTy) = .f32) shapeCasts_S425_S1x25x17

/-- The input in flat order, at launch. -/
def flatIn (d : Dev nD) : S425.Idx → F .f32 := shapeCast S425 (m (loc d main_arg0) : S1x25x17.Idx → F .f32) shapeCasts_S1x25x17_S425

variable [FloatOps F]

/-- The result: the flat output in the input's order. -/
def result (d : Dev nD) : S1x25x17.Idx → F .f32 := shapeCast S1x25x17 (flatOut (flatIn m d)) shapeCasts_S425_S1x25x17

/-! ## What the call takes and hands back -/

/-- The flat input whole; the flat result whole at `f`. -/
abbrev xPts (d : Dev nD) : sProp 𝕄 := loc d main_v0 ↦{fullShare} flatIn m d
abbrev oPts (d : Dev nD) (f : S425.Idx → F .f32) : sProp 𝕄 := loc d main_v1 ↦{fullShare} f

/-- The call's payloads: the flat input and the result to SparseCore 0's sequencer, the same back with the rows'
    outputs in the result. -/
def P : (K (F := F)).Pay (nD := nD) (Val := Elt F) (Name := ℕ) (U := UU) where
  st := fun _ d _ => iprop(xPts m d ∗ ∃ f, oPts d f)
  dn := fun _ d _ => iprop(xPts m d ∗ oPts d (flatOut (flatIn m d)))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's obligation -/

section Sequencer

variable (d : Dev nD)

/-- The sequencer's own cells at zero: the body's two, one by one, and the rest. -/
theorem ownSems0_S (c : Fin τ.nSC) :
    (ownSems0 (S d c) : sProp 𝕄)
      = iprop(semVal (S d c, ldC) 0 ∗ semVal (S d c, stC) 0
          ∗ bigSep (((ownCells (S d c)).erase (S d c, ldC)).erase (S d c, stC)) fun g => semVal g 0) := by
  unfold SparseCore.Cfg.ownSems0
  rw [SparseCore.bigSep_erase' (i := (S d c, ldC)) (mem_ownCells.mpr ⟨rfl, show (ldC : SemLoc sig).isScoped .scScalar = true by decide⟩),
    SparseCore.bigSep_erase' (i := (S d c, stC)) (Finset.mem_erase.mpr
      ⟨fun h => absurd (congrArg Prod.snd h) (show (stC : SemLoc sig) ≠ ldC by decide),
        mem_ownCells.mpr ⟨rfl, show (stC : SemLoc sig).isScoped .scScalar = true by decide⟩⟩)]

/-- The sequencer's own buffers: the two scratch arrays, each at some contents, and the rest. -/
theorem ownBufs_S (c : Fin τ.nSC) :
    (ownBufs (S d c) : sProp 𝕄)
      = iprop((∃ f, (S d c).loc cc0_scratch0 ↦{fullShare} f) ∗ (∃ f, (S d c).loc cc0_scratch1 ↦{fullShare} f)
          ∗ bigSep (((ownRefs (τ := τ) (.scScalar c)).erase ((Proc.scScalar c).devRef cc0_scratch0)).erase ((Proc.scScalar c).devRef cc0_scratch1))
              fun b => iprop(∃ f, ((d, b) : Loc nD τ sig) ↦{fullShare} f)) := by
  unfold SparseCore.Cfg.ownBufs
  rw [SparseCore.bigSep_erase' ((mem_ownRefs (p := Proc.scScalar c) (b := (Proc.scScalar c).devRef cc0_scratch0)).mpr rfl),
    SparseCore.bigSep_erase' (i := (Proc.scScalar c).devRef cc0_scratch1) (Finset.mem_erase.mpr
      ⟨fun h => (show ∀ c : Fin τ.nSC, (Proc.scScalar c).devRef (cc0_scratch1 : Ref sig .scScalar) ≠ (Proc.scScalar c).devRef cc0_scratch0 by decide) c h,
        (mem_ownRefs (p := Proc.scScalar c) (b := (Proc.scScalar c).devRef cc0_scratch1)).mpr rfl⟩)]

/-- The arrays as the sequencer addresses them are the TensorCore's, -/
theorem pts_x (c : Fin τ.nSC) (f : S425.Idx → F .f32) :
    (xW.view.loc (S d c) ↦{fullShare} f : sProp 𝕄) = loc d main_v0 ↦{fullShare} f := by
  simp only [Memref.view_whole, View.set_whole]
theorem pts_o (c : Fin τ.nSC) (f : S425.Idx → F .f32) :
    (oW.view.loc (S d c) ↦{fullShare} f : sProp 𝕄) = loc d main_v1 ↦{fullShare} f := by
  simp only [Memref.view_whole, View.set_whole]
/-- and its scratch arrays are its own. -/
theorem pts_in (c : Fin τ.nSC) (f : S425.Idx → F .f32) :
    (inW.view.loc (S d c) ↦{fullShare} f : sProp 𝕄) = (S d c).loc cc0_scratch0 ↦{fullShare} f := by
  simp only [Memref.view_whole, View.set_whole]
theorem pts_out (c : Fin τ.nSC) (f : S425.Idx → F .f32) :
    (outW.view.loc (S d c) ↦{fullShare} f : sProp 𝕄) = (S d c).loc cc0_scratch1 ↦{fullShare} f := by
  simp only [Memref.view_whole, View.set_whole]

/-- The kernel on the sequencer, from all the sequencer owns back to all of it. -/
theorem body₀ (hF : (K (F := F)).Facts) (h : 0 < grid0.bound 0) (O : CellTallies nD τ sig (HIx 1)) (W : Waits sig (HIx 1)) (hO : ∀ g, O g none = 0) :
    iprop(levAts (K (F := F)).L (K (F := F)).lev ∗ emp ∗ (xPts m d ∗ ∃ f, oPts d f)
        ∗ scopedBufs (S0 d h) ∗ scopedSems0 (S0 d h) ∗ owes (S0 d h) O W)
      ⊢ wp frame (wpE (defs₀ (F := F)) 𝒱₀ (S0 d h) none) Set.univ
          (cc0__scs_body (coordsS ⟨0, h⟩) xW (Memref.isWhole_whole _) oW (Memref.isWhole_whole _)
            inW (Memref.isWhole_whole _) outW (Memref.isWhole_whole _) cc0_scoped0 cc0_scoped1)
          fun _ => iprop((xPts m d ∗ oPts d (flatOut (flatIn m d))) ∗ scopedBufs (S0 d h) ∗ scopedSems0 (S0 d h)
            ∗ ∃ W', ⌜∀ p ∈ W', p ∈ W ∨ p.2 = none ∨ p.2 = some (0 : Fin 1)⌝ ∗ owes (S0 d h) O W') := by
  rw [(K (F := F)).scopedBufs_S hF d _, SparseCore.Cfg.scopedSems0_S (Val := Elt F) d _, ownSems0_S, ownBufs_S]
  iintro ⟨#Hlv, -, ⟨Hx, %fo, Ho⟩, ⟨⟨⟨%f0, Hi⟩, ⟨%f1, Hs⟩, Hbufs⟩, Htiles⟩, ⟨⟨Hc0, Hc1, Hsems⟩, HtileSems⟩, HO⟩
  ihave Hmw := ((K (F := F)).mayWaits_none (thr := S0 d h) hO) $$ Hlv
  ihave Hx' := (Entails.of_eq (pts_x (F := F) d _ _).symm) $$ Hx
  ihave Ho' := (Entails.of_eq (pts_o (F := F) d _ _).symm) $$ Ho
  ihave Hi' := (Entails.of_eq (pts_in (F := F) d _ _).symm) $$ Hi
  ihave Hs' := (Entails.of_eq (pts_out (F := F) d _ _).symm) $$ Hs
  iapply (wp_wand_r Idealize.ShloMosaic.frame (wpE (defs₀ (F := F)) 𝒱₀ (S0 d h) none) Set.univ)
  isplitl [Hx' Ho' Hi' Hs' Hc0 Hc1 HO]
  · iapply (seq_run d h (flatIn m d) O W _ _ _)
    isplitr; · iexact Hmw
    isplitl [Hx']; · iexact Hx'
    isplitl [Ho']; · iexact Ho'
    isplitl [Hi']; · iexact Hi'
    isplitl [Hs']; · iexact Hs'
    isplitl [Hc0]; · iexact Hc0
    isplitl [Hc1]; · iexact Hc1
    iexact HO
  iintro %_ ⟨Hx', Ho', ⟨%g0, Hi'⟩, ⟨%g1, Hs'⟩, Hc0, Hc1, %W', HO⟩
  isplitl [Hx' Ho']
  · isplitl [Hx']; · iapply (Entails.of_eq (pts_x (F := F) d _ _)); iexact Hx'
    iapply (Entails.of_eq (pts_o (F := F) d _ _)); iexact Ho'
  isplitl [Hi' Hs' Hbufs Htiles]
  · isplitl [Hi' Hs' Hbufs]
    · isplitl [Hi']; · iexists _; iapply (Entails.of_eq (pts_in (F := F) d _ _)); iexact Hi'
      isplitl [Hs']; · iexists _; iapply (Entails.of_eq (pts_out (F := F) d _ _)); iexact Hs'
      iexact Hbufs
    iexact Htiles
  isplitl [Hc0 Hc1 Hsems HtileSems]
  · isplitl [Hc0 Hc1 Hsems]
    · isplitl [Hc0]; · iexact Hc0
      isplitl [Hc1]; · iexact Hc1
      iexact Hsems
    iexact HtileSems
  iexists W'; isplitr
  · ipureintro; intro p _
    rcases p.2 with _ | q
    · exact .inr (.inl rfl)
    · exact .inr (.inr (congrArg some (Subsingleton.elim q 0)))
  · iexact HO

end Sequencer

/-- The body table's entry for the sequencer. -/
theorem defs₀_scalar (c : Fin τ.nSC) :
    defs₀ (F := F) (.scScalar c) 0 ()
      = SparseCore.onCore hcore0 (fun c => cc0__scs_body (coordsS c) xW (Memref.isWhole_whole _) oW (Memref.isWhole_whole _)
          inW (Memref.isWhole_whole _) outW (Memref.isWhole_whole _) cc0_scoped0 cc0_scoped1) ⟨⟩ c := rfl

/-- The launch's obligation at its one call. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact body₀ m d sc_facts h O W hO

/-! ## The launch's start -/

/-- The launch element: the handshakes' rounds, nothing of the kernel's own. -/
def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## @main on the TensorCore -/

/-- The six arrays of @main. -/
abbrev S6 : Finset (DevRef τ sig) := {a0', a1', a2', x', o', r'}

/-- Six arrays held one by one. -/
abbrev six (d : Dev nD) (f0 : Buf (Elt F) (loc d main_arg0)) (f1 : Buf (Elt F) (loc d main_arg1)) (f2 : Buf (Elt F) (loc d main_arg2))
    (fx : Buf (Elt F) (loc d main_v0)) (fo : Buf (Elt F) (loc d main_v1)) (fr : Buf (Elt F) (loc d main_v2)) : sProp 𝕄 :=
  iprop((loc d main_arg0 ↦{fullShare} f0) ∗ (loc d main_arg1 ↦{fullShare} f1) ∗ (loc d main_arg2 ↦{fullShare} f2)
    ∗ (loc d main_v0 ↦{fullShare} fx) ∗ (loc d main_v1 ↦{fullShare} fo) ∗ loc d main_v2 ↦{fullShare} fr)

omit [FloatOps F] in
theorem held_S6 (d : Dev nD) (W : Valuation τ sig (Elt F)) :
    (held (T d) S6 W : sProp 𝕄) = six d (W a0') (W a1') (W a2') (W x') (W o') (W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = six d (W main_arg0) (W main_arg1) (W main_arg2) (W main_v0) (W main_v1) (W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The arrays at launch, after the first reshape, and after the call. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (flatOut (flatIn m d))

theorem hIn : (opIn (F := F)).bufs ⊆ S6 := show ({a0', x'} : Finset (DevRef τ sig)) ⊆ S6 by decide
theorem hOut : (opOut (F := F)).bufs ⊆ S6 := show ({o', r'} : Finset (DevRef τ sig)) ⊆ S6 by decide

/-- The first reshape writes the flat input and nothing else. -/
theorem V1_of_ne (d : Dev nD) {b : DevRef τ sig} (h : b ∉ ({x'} : Finset (DevRef τ sig))) : V1 m d b = V0 m d b :=
  (opIn (F := F)).result_of_not_mem (V0 m d) h
theorem V1_x (d : Dev nD) : V1 m d x' = flatIn m d := StableHlo.reshape_result main_arg0 main_v0 _ _ _ _ _

theorem held_V1 (d : Dev nD) :
    (held (T d) S6 ((opIn (F := F)).result (V0 m d)) : sProp 𝕄)
      = six d (m (loc d main_arg0)) (m (loc d main_arg1)) (m (loc d main_arg2)) (flatIn m d) (m (loc d main_v1)) (m (loc d main_v2)) := by
  change held (T d) S6 (V1 m d) = _
  rw [held_S6, V1_x, V1_of_ne m d (b := a0') (by decide), V1_of_ne m d (b := a1') (by decide), V1_of_ne m d (b := a2') (by decide),
    V1_of_ne m d (b := o') (by decide), V1_of_ne m d (b := r') (by decide)]
  rfl

theorem held_V2 (d : Dev nD) :
    (held (T d) S6 (V2 m d) : sProp 𝕄)
      = six d (m (loc d main_arg0)) (m (loc d main_arg1)) (m (loc d main_arg2)) (flatIn m d) (flatOut (flatIn m d)) (m (loc d main_v2)) := by
  rw [held_S6]
  unfold V2
  rw [Function.update_self, Function.update_of_ne (show a0' ≠ o' by decide), Function.update_of_ne (show a1' ≠ o' by decide),
    Function.update_of_ne (show a2' ≠ o' by decide), Function.update_of_ne (show x' ≠ o' by decide), Function.update_of_ne (show r' ≠ o' by decide),
    V1_x, V1_of_ne m d (b := a0') (by decide), V1_of_ne m d (b := a1') (by decide), V1_of_ne m d (b := a2') (by decide),
    V1_of_ne m d (b := r') (by decide)]
  rfl

/-- The second reshape writes the result. -/
theorem held_V3 (d : Dev nD) :
    (held (T d) S6 ((opOut (F := F)).result (V2 m d)) : sProp 𝕄)
      = six d (m (loc d main_arg0)) (m (loc d main_arg1)) (m (loc d main_arg2)) (flatIn m d) (flatOut (flatIn m d)) (result m d) := by
  have hne (b : DevRef τ sig) (h : b ∉ ({r'} : Finset (DevRef τ sig))) : (opOut (F := F)).result (V2 m d) b = V2 m d b :=
    (opOut (F := F)).result_of_not_mem (V2 m d) h
  have hr : (opOut (F := F)).result (V2 m d) r' = result m d := by
    refine (StableHlo.reshape_result main_v1 main_v2 _ _ _ _ _).trans ?_
    change shapeCast S1x25x17 (V2 m d o' : S425.Idx → F .f32) _ = _
    unfold V2; rw [Function.update_self]; rfl
  rw [held_S6, hr, hne a0' (by decide), hne a1' (by decide), hne a2' (by decide), hne x' (by decide), hne o' (by decide)]
  unfold V2
  rw [Function.update_self, Function.update_of_ne (show a0' ≠ o' by decide), Function.update_of_ne (show a1' ≠ o' by decide),
    Function.update_of_ne (show a2' ≠ o' by decide), Function.update_of_ne (show x' ≠ o' by decide),
    V1_x, V1_of_ne m d (b := a0') (by decide), V1_of_ne m d (b := a1') (by decide), V1_of_ne m d (b := a2') (by decide)]
  rfl

theorem unscoped_held (d : Dev nD) : (unscopedBufs d (fun b => m ((SparseCore.T d).loc b)) : sProp 𝕄) = held (T d) S6 (V0 m d) := by
  rw [unscopedBufs_eq, held_S6]; rfl

theorem st0_eq (d : Dev nD) : (bigSep Finset.univ fun c : Fin ((K (F := F)).nCore 0) => (P m).st 0 d c) = iprop(xPts m d ∗ ∃ f, oPts d f) :=
  bigSep_univ_of_subsingleton (0 : Fin 1)
theorem dn0_eq (d : Dev nD) : (bigSep Finset.univ fun c : Fin ((K (F := F)).nCore 0) => (P m).dn 0 d c)
    = iprop(xPts m d ∗ oPts d (flatOut (flatIn m d))) :=
  bigSep_univ_of_subsingleton (0 : Fin 1)

/-- What @main leaves the claim: the arguments as they were, the result. -/
abbrev FIN (d : Dev nD) : sProp 𝕄 :=
  iprop((loc d main_arg0 ↦{fullShare} m (loc d main_arg0)) ∗ (loc d main_arg1 ↦{fullShare} m (loc d main_arg1))
    ∗ (loc d main_arg2 ↦{fullShare} m (loc d main_arg2)) ∗ loc d main_v2 ↦{fullShare} result m d)

/-- @main: the reshape, the call, the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S6) hIn (V := V0 m d)) $$ [Hb Hheld]
  · isplitl [Hb]; · iexact Hb
    iexact Hheld
  iintro ⟨Hb, Hheld⟩
  ihave Hh := (Entails.of_eq (held_V1 (F := F) m d)) $$ Hheld
  icases Hh with ⟨H0, H1, H2, Hx, Ho, Hr⟩
  rw [wp_ret]; imodintro
  iapply ((K (F := F)).wp_run (D (F := F)) 𝒱 (EH := EH) (P := P m) κ d 0) $$ [Hst H0 H1 H2 Hx Ho Hb Hr Hts]
  isplitr; · iexact Hctx
  isplitl [Hst]; · iexact Hst
  isplitl [Hx Ho]
  · rw [st0_eq]
    isplitl [Hx]; · iexact Hx
    iexists _; iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := opOut) (S := S6) hOut (V := V2 m d)) $$ [Hb H0 H1 H2 Hx Ho Hr]
  · isplitl [Hb]; · iexact Hb
    rw [held_V2]
    isplitl [H0]; · iexact H0
    isplitl [H1]; · iexact H1
    isplitl [H2]; · iexact H2
    isplitl [Hx]; · iexact Hx
    isplitl [Ho]; · iexact Ho
    iexact Hr
  iintro ⟨Hb, Hheld⟩
  ihave Hh := (Entails.of_eq (held_V3 (F := F) m d)) $$ Hheld
  icases Hh with ⟨H0, H1, H2, -, -, Hr⟩
  rw [wp_ret]; imodintro; imodintro
  isplitl [Hst]; · iexact Hst
  isplitr [Hb Hts]
  · isplitl [H0]; · iexact H0
    isplitl [H1]; · iexact H1
    isplitl [H2]; · iexact H2
    iexact Hr
  isplitl [Hb] <;> iassumption

/-! ## The run -/

/-- What a final memory holds on device `d`. -/
def Done (d : Dev nD) (M : (ℓ : Loc nD τ sig) → Buf (Elt F) ℓ) : Prop :=
  M (loc d main_v2) = result m d ∧ M (loc d main_arg0) = m (loc d main_arg0) ∧ M (loc d main_arg1) = m (loc d main_arg1)
    ∧ M (loc d main_arg2) = m (loc d main_arg2)

/-- What @main leaves, held against the machine, says it. -/
theorem hfin (d : Dev nD) (s' : Phys nD τ sig (Elt F)) : iprop(FIN m d ∗ SI s') ⊢ (⌜Done m d s'.mem.mem⌝ : sProp 𝕄) := by
  iintro ⟨⟨H0, H1, H2, Hr⟩, HSI⟩
  icombine HSI H0 gives %h0
  icombine HSI H1 gives %h1
  icombine HSI H2 gives %h2
  icombine HSI Hr gives %hr
  ipureintro
  exact ⟨funext fun i => hr i (Finset.mem_univ i), funext fun i => h0 i (Finset.mem_univ i), funext fun i => h1 i (Finset.mem_univ i),
    funext fun i => h2 i (Finset.mem_univ i)⟩

/-- Every run of the kernel ends with the result and the arguments as said and every semaphore at zero. -/
theorem run_main [∀ e, Nonempty (Elt F e)] :
    θ_run (Cert.KernelIdeal.defs (F := F)) (Cert.KernelIdeal.threads (F := F)) ⟨m, fun _ => 0, ρ⟩
      (fun r => (∀ d : Dev nD, Done m d r.2.mem) ∧ r.2.sem = fun _ => 0) :=
  SparseCore.Cfg.θ_run_sc_quiescent (K := K (F := F)) (D := D (F := F)) (𝒱 := 𝒱) (EH := EH) (P := P m) (A := ∅) sc_facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fun d s' => Done m d s'.mem.mem) (hfin m) _
    (fun _ h hz => ⟨h, hz⟩)

end Cert.Proof

end
-- ==== Proof.Ref.lean ====
/-
  The reference's run, over any float values: its arguments unchanged, its result the composed operations of its input.
-/
module

public import proofs.«01_k».proof.Defs
public import proofs.«01_k».proof.Proof.Gen.ReferenceIdeal
public import Idealize.ShloMosaic.Lib.StableHlo.Run
public import Idealize.ShloMosaic.Lib.Claim
public import Idealize.ShloMosaic.Lib.Quiescent

@[expose] public section

noncomputable section

namespace Cert.Proof.Ref

open Cert.ReferenceIdeal Cert.ReferenceIdeal.Facts₀
open Idealize.ShloMosaic Idealize.ShloMosaic.StableHlo

variable {F : FTy → Type} [FloatOps F] [Cert.ReferenceIdeal.Facts]

/-- The reference's pick: per row, the second half of the reduction of the pairs (element, its position). -/
def pick (x : S1x25x17.Idx → F .f32) : S1x25.Idx → BitVec 32 := fun j =>
  (Host.argReduce reducer_argmax_f32_i32 x (iotaInDim S1x25x17 32 2) (constant S_ .f32 0xFF800000#32) (constantI S_ 32 0#32)
    reducesTo_S1x25x17_S1x25_d2 h_S_ j).2

/-- The reference's one-hot row of the pick. -/
def oneHot (p : S1x25.Idx → BitVec 32) : S1x25x17.Idx → F .f32 :=
  uitofp .f32 (cmpi .eq
    (broadcastInDim S1x25x17 ![0, 1, 2] bcast_S1x25x1_S1x25x17_0_1_2 (broadcastInDim S1x25x1 ![0, 1] bcast_S1x25_S1x25x1_0_1 p))
    (broadcastInDim S1x25x17 ![0, 1, 2] bcast_S1x1x17_S1x25x17_0_1_2 (iotaInDim S1x1x17 32 2)))

/-- The reference's result: the one-hot rows, the input taken off and added back. -/
def out (x : S1x25x17.Idx → F .f32) : S1x25x17.Idx → F .f32 := addf (subf (oneHot (pick x)) x) x

/-- Every run of the reference ends with its result and its arguments as said. -/
theorem run_main (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v3) = out (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  rfl

end Cert.Proof.Ref

end
-- ==== Proof.FirstMax.lean ====
/-
  The first place of a row's greatest number, on the extended reals: what it is, that there is one at most, and
  that the kernel's walk along the row finds it.
-/
module

public import proofs.«01_k».proof.Proof.Row
public import Idealize.ShloMosaic.PureOps.Ideal.Laws

@[expose] public section

noncomputable section

namespace Cert.Proof

open Idealize.ShloMosaic

/-- Among places `0` to `n`, place `k` is the first of those where `a` is greatest. -/
def FirstMax (a : ℕ → EReal) (n k : ℕ) : Prop := k ≤ n ∧ ∀ j ≤ n, a j < a k ∨ (a j = a k ∧ k ≤ j)

/-- There is one such place at most. -/
theorem FirstMax.unique {a : ℕ → EReal} {n k l : ℕ} (hk : FirstMax a n k) (hl : FirstMax a n l) : k = l := by
  rcases hk.2 l hl.1 with h | ⟨h, h'⟩
  · rcases hl.2 k hk.1 with g | ⟨g, -⟩
    · exact absurd (h.trans g) (lt_irrefl _)
    · exact absurd g h.ne'
  · rcases hl.2 k hk.1 with g | ⟨-, g'⟩
    · exact absurd h g.ne'
    · exact le_antisymm h' g'

/-- The kernel's walk: the word of the first place of the greatest number, beside that number. -/
theorem place_first (a : ℕ → Ideal .f32) (n : ℕ) :
    ∃ k, FirstMax a n k ∧ place a n = BitVec.ofNat 32 k ∧ best a n = a k := by
  induction n with
  | zero =>
    refine ⟨0, ⟨le_rfl, fun j hj => .inr ⟨?_, Nat.zero_le _⟩⟩, rfl, rfl⟩
    rw [Nat.le_zero.mp hj]
  | succ n ih =>
    obtain ⟨k, ⟨hkn, hk⟩, hp, hb⟩ := ih
    by_cases h : a k < a (n + 1)
    · have hc : Scalar.cmpf .ogt (a (n + 1)) (best a n) = 1#1 := by
        rw [hb]; exact congrArg BitVec.ofBool (decide_eq_true h)
      refine ⟨n + 1, ⟨le_rfl, fun j hj => ?_⟩, ?_, ?_⟩
      · rcases Nat.lt_or_ge n j with g | g
        · have : j = n + 1 := le_antisymm hj g
          exact .inr ⟨congrArg a this, this.ge⟩
        · rcases hk j g with g | ⟨g, -⟩
          · exact .inl (g.trans h)
          · exact .inl (g.trans_lt h)
      · unfold place; rw [hc]; rfl
      · unfold best; rw [hc]; rfl
    · have hc : Scalar.cmpf .ogt (a (n + 1)) (best a n) = 0#1 := by
        rw [hb]; exact congrArg BitVec.ofBool (decide_eq_false h)
      refine ⟨k, ⟨hkn.trans n.le_succ, fun j hj => ?_⟩, ?_, ?_⟩
      · rcases Nat.lt_or_ge n j with g | g
        · have : j = n + 1 := le_antisymm hj g
          subst this
          rcases (not_lt.mp h).lt_or_eq with g | g
          · exact .inl g
          · exact .inr ⟨g, hkn.trans n.le_succ⟩
        · exact hk j g
      · unfold place; rw [hc]; exact hp
      · unfold best; rw [hc]; exact hb

end Cert.Proof

end
-- ==== Proof.Pick.lean ====
/-
  The reference's pick, on the extended reals: the reduction of a row's pairs (number, place) by the comparison the
  reference states picks the first place of the row's greatest number.
-/
module

public import proofs.«01_k».proof.Proof.FirstMax
public import proofs.«01_k».proof.Proof.Ref
public import Idealize.ShloMosaic.PureOps.Reduce

@[expose] public section

noncomputable section

namespace Cert.Proof.Ref

open Cert.ReferenceIdeal Cert.ReferenceIdeal.Facts₀
open Idealize.ShloMosaic

/-- A number and its place. -/
abbrev Pr := Ideal .f32 × BitVec 32

/-- The pair `p` is no worse than `q`: its number is greater, or the same and its place no later. -/
def Le (q p : Pr) : Prop := (show EReal from q.1) < p.1 ∨ (q.1 = p.1 ∧ p.2.toInt ≤ q.2.toInt)

theorem Le.refl (p : Pr) : Le p p := .inr ⟨rfl, le_rfl⟩

theorem Le.trans {p q r : Pr} (h : Le p q) (g : Le q r) : Le p r := by
  rcases h with h | ⟨h, h'⟩
  · rcases g with g | ⟨g, -⟩
    · exact .inl (h.trans g)
    · exact .inl (h.trans_eq g)
  · rcases g with g | ⟨g, g'⟩
    · exact .inl (h.trans_lt g)
    · exact .inr ⟨h.trans g, g'.trans h'⟩

/-- One step of the reduction keeps one of its two pairs, and the kept one is no worse than either. -/
theorem step (p q : Pr) :
    (reducer_argmax_f32_i32 p q = p ∧ Le q p) ∨ (reducer_argmax_f32_i32 p q = q ∧ Le p q) := by
  obtain ⟨a, v⟩ := p
  obtain ⟨b, w⟩ := q
  have hgt : FloatOps.cmpf .ogt a b = BitVec.ofBool (decide ((b : EReal) < a)) := rfl
  have hne : FloatOps.cmpf .une a a = 0#1 := congrArg BitVec.ofBool (decide_eq_false (not_not.mpr rfl))
  have heq : FloatOps.cmpf .oeq a b = BitVec.ofBool (decide ((a : EReal) = b)) := rfl
  have hlt : IntOp.cmpi .slt v w = BitVec.ofBool (decide (v.toInt < w.toInt)) := rfl
  unfold reducer_argmax_f32_i32
  simp only [hgt, hne, heq, hlt]
  by_cases h : (b : EReal) < a
  · left
    rw [decide_eq_true h, decide_eq_false h.ne']
    refine ⟨?_, .inl h⟩
    by_cases g : v.toInt < w.toInt
    · rw [decide_eq_true g]; rfl
    · rw [decide_eq_false g]; rfl
  · rw [decide_eq_false h]
    by_cases e : (a : EReal) = b
    · rw [decide_eq_true e]
      by_cases g : v.toInt < w.toInt
      · left
        rw [decide_eq_true g]
        exact ⟨Prod.ext e.symm rfl, .inr ⟨e.symm, g.le⟩⟩
      · right
        rw [decide_eq_false g]
        exact ⟨rfl, .inr ⟨e, not_lt.mp g⟩⟩
    · right
      rw [decide_eq_false e]
      refine ⟨?_, .inl (lt_of_le_of_ne (not_lt.mp h) e)⟩
      by_cases g : v.toInt < w.toInt
      · rw [decide_eq_true g]; rfl
      · rw [decide_eq_false g]; rfl

/-- The reduction ends at its start or at a pair of the list, no worse than the start and all of the list. -/
theorem fold_spec (l : List Pr) (p : Pr) :
    (l.foldl reducer_argmax_f32_i32 p = p ∨ l.foldl reducer_argmax_f32_i32 p ∈ l)
      ∧ Le p (l.foldl reducer_argmax_f32_i32 p) ∧ ∀ q ∈ l, Le q (l.foldl reducer_argmax_f32_i32 p) := by
  induction l generalizing p with
  | nil => exact ⟨.inl rfl, .refl p, fun q hq => absurd hq List.not_mem_nil⟩
  | cons c l ih =>
    obtain ⟨hm, hs, hl⟩ := ih (reducer_argmax_f32_i32 p c)
    rw [List.foldl_cons]
    rcases step p c with ⟨h, hc⟩ | ⟨h, hc⟩ <;> rw [h] at hm hs hl ⊢
    · exact ⟨hm.imp id (List.mem_cons_of_mem _), hs, fun q hq => (List.mem_cons.mp hq).elim (fun e => e ▸ hc.trans hs) (hl q)⟩
    · exact ⟨.inr (hm.elim (fun e => by rw [e]; exact List.mem_cons_self) (List.mem_cons_of_mem _)), hc.trans hs,
        fun q hq => (List.mem_cons.mp hq).elim (fun e => e ▸ hs) (hl q)⟩

/-- The index of row `r`'s place `j` (wrapped around past the ends, which no use reaches). -/
def cell (r j : ℕ) : S1x25x17.Idx
  | ⟨0, _⟩ => ⟨0, Nat.one_pos⟩
  | ⟨1, _⟩ => ⟨r % 25, Nat.mod_lt _ (Nat.succ_pos 24)⟩
  | ⟨2, _⟩ => ⟨j % 17, Nat.mod_lt _ (Nat.succ_pos 16)⟩

theorem cell_val (i : S1x25x17.Idx) : cell (i 1).val (i 2).val = i := by
  funext a
  match a with
  | ⟨0, _⟩ => exact Fin.ext (Nat.lt_one_iff.mp (i 0).isLt).symm
  | ⟨1, _⟩ => exact Fin.ext (Nat.mod_eq_of_lt (i 1).isLt)
  | ⟨2, _⟩ => exact Fin.ext (Nat.mod_eq_of_lt (i 2).isLt)

/-- The places whose reduction lands at row `r` are the row's. -/
theorem drop_iff (h : S1x25x17.ReducesTo [2] S1x25) (i : S1x25x17.Idx) (j : S1x25.Idx) :
    h.drop i = j ↔ (i 1).val = (j 1).val := by
  constructor
  · rintro rfl
    exact (h.drop_apply_val_of_eq i 1 1).symm
  · intro e
    funext b
    match b with
    | ⟨0, hb⟩ => exact Fin.ext ((Nat.lt_one_iff.mp (h.drop i ⟨0, hb⟩).isLt).trans (Nat.lt_one_iff.mp (j ⟨0, hb⟩).isLt).symm)
    | ⟨1, _⟩ => exact Fin.ext ((h.drop_apply_val_of_eq i 1 1).trans e)

variable [Cert.ReferenceIdeal.Facts]

/-- The pairs reduced for row `j` are the row's numbers with their places. -/
theorem mem_fiber (x : S1x25x17.Idx → Ideal .f32) (j : S1x25.Idx) (p : Pr) :
    p ∈ Host.argReduceFiber x (iotaInDim S1x25x17 32 2) reducesTo_S1x25x17_S1x25_d2 j
      ↔ ∃ k ≤ 16, p = (x (cell (j 1).val k), BitVec.ofNat 32 k) := by
  unfold Host.argReduceFiber
  simp only [List.mem_map, List.mem_filter, List.mem_finRange, true_and, decide_eq_true_eq]
  constructor
  · rintro ⟨n, hn, rfl⟩
    rw [drop_iff] at hn
    generalize S1x25x17.rowMajor.symm n = i at hn ⊢
    exact ⟨(i 2).val, Nat.le_of_lt_succ (i 2).isLt, by rw [← hn, cell_val]; rfl⟩
  · rintro ⟨k, hk, rfl⟩
    refine ⟨S1x25x17.rowMajor (cell (j 1).val k), ?_, ?_⟩
    · rw [drop_iff, Equiv.symm_apply_apply]
      exact Nat.mod_eq_of_lt (j 1).isLt
    · rw [Equiv.symm_apply_apply]
      exact congrArg (Prod.mk _) (congrArg (BitVec.ofNat 32) (Nat.mod_eq_of_lt (Nat.lt_succ_of_le hk)))

/-- A small place's word, read as a signed integer, is the place. -/
theorem toInt_place {k : ℕ} (hk : k ≤ 16) : (BitVec.ofNat 32 k).toInt = k := by
  interval_cases k <;> rfl

/-- The reference's pick at row `j` is the word of the first place of the row's greatest number. -/
theorem pick_first (x : S1x25x17.Idx → Ideal .f32) (j : S1x25.Idx) :
    ∃ k, FirstMax (fun k => x (cell (j 1).val k)) 16 k ∧ pick x j = BitVec.ofNat 32 k := by
  unfold pick
  rw [Ideal.argReduce_eq_reduce2, Host.reduce2_eq_foldl_fiber]
  obtain ⟨hm, hs, hl⟩ := fold_spec (Host.argReduceFiber x (iotaInDim S1x25x17 32 2) reducesTo_S1x25x17_S1x25_d2 j)
    ((constant S_ .f32 0xFF800000#32 : FVec Ideal S_ .f32) (Shape.Idx.first h_S_), constantI S_ 32 0#32 (Shape.Idx.first h_S_))
  have hbot : (constant S_ .f32 0xFF800000#32 : FVec Ideal S_ .f32) (Shape.Idx.first h_S_) = (⊥ : EReal) := by
    change Ideal.ofBits .f32 0xFF800000#32 = _
    simp [Ideal.ofBits, Ideal.ieee]
  generalize List.foldl _ _ _ = p at hm hs hl ⊢
  have hall : ∀ k ≤ 16, Le (x (cell (j 1).val k), BitVec.ofNat 32 k) p := fun k hk => hl _ ((mem_fiber x j _).mpr ⟨k, hk, rfl⟩)
  rcases hm with rfl | hm
  · refine ⟨0, ⟨Nat.zero_le _, fun k hk => .inr ⟨?_, Nat.zero_le _⟩⟩, rfl⟩
    have h0 : ∀ k ≤ 16, x (cell (j 1).val k) = (⊥ : EReal) := fun k hk => by
      rcases hall k hk with h | ⟨h, -⟩
      · exact absurd (h.trans_eq hbot) not_lt_bot
      · exact h.trans hbot
    exact (h0 k hk).trans (h0 0 (Nat.zero_le _)).symm
  · obtain ⟨k, hk, rfl⟩ := (mem_fiber x j p).mp hm
    refine ⟨k, ⟨hk, fun l hl => (hall l hl).imp id fun h => ⟨h.1, ?_⟩⟩, rfl⟩
    have := h.2
    rw [toInt_place hk, toInt_place hl] at this
    exact Int.ofNat_le.mp this

end Cert.Proof.Ref

end
-- ==== Proof.Equal.lean ====
/-
  The equation, on the extended reals: the kernel's result is the reference's.
-/
module

public import proofs.«01_k».proof.Proof.Launch
public import proofs.«01_k».proof.Proof.Pick
public import Idealize.ShloMosaic.Lib.Pipeline.Value

@[expose] public section

noncomputable section

namespace Cert.Proof

open Idealize.ShloMosaic
open Cert.KernelIdeal (S1x25x17 S425)
open Cert.Proof.Ref (cell cell_val)

/-- The bit-to-number conversion of the reference is the kernel's choice between one and zero. -/
theorem bit_number (c : BitVec 1) :
    FloatOps.uitofp (F := Ideal) .f32 c = Scalar.select c (Scalar.ofBits .f32 0x3F800000#32) (Scalar.ofBits .f32 0x00000000#32) := by
  have h1 : Ideal.ofBits .f32 0x3F800000#32 = 1 := by simp [Ideal.ofBits, Ideal.ieee, -EReal.coe_mul]; norm_num
  have h0 : Ideal.ofBits .f32 0x00000000#32 = 0 := Ideal.ofBits_zero_f32
  change (((c.toNat : ℕ) : ℝ) : EReal) = if c = 1 then Ideal.ofBits .f32 0x3F800000#32 else Ideal.ofBits .f32 0x00000000#32
  rw [h1, h0]
  rcases (show c = 0#1 ∨ c = 1#1 by revert c; decide) with rfl | rfl <;> simp

/-- The row of an index. -/
def rowOf (i : S1x25x17.Idx) : Cert.ReferenceIdeal.S1x25.Idx
  | ⟨0, _⟩ => ⟨0, Nat.one_pos⟩
  | ⟨1, _⟩ => ⟨(i 1).val, (i 1).isLt⟩

variable [Cert.ReferenceIdeal.Facts]

/-- The reference's result at an index. -/
theorem ref_at (x : S1x25x17.Idx → Ideal .f32) (i : S1x25x17.Idx) :
    Ref.out x i = mark (Ref.pick x (rowOf i)) (i 2).val (x i) := by
  have hp : broadcastInDim S1x25x17 ![0, 1, 2] Cert.ReferenceIdeal.Facts₀.bcast_S1x25x1_S1x25x17_0_1_2
      (broadcastInDim Cert.ReferenceIdeal.S1x25x1 ![0, 1] Cert.ReferenceIdeal.Facts₀.bcast_S1x25_S1x25x1_0_1 (Ref.pick x)) i = Ref.pick x (rowOf i) := by
    refine congrArg (Ref.pick x) (funext fun a => ?_)
    match a with
    | ⟨0, _⟩ => rfl
    | ⟨1, _⟩ => rfl
  have hi : broadcastInDim S1x25x17 ![0, 1, 2] Cert.ReferenceIdeal.Facts₀.bcast_S1x1x17_S1x25x17_0_1_2
      (iotaInDim Cert.ReferenceIdeal.S1x1x17 32 2) i = BitVec.ofNat 32 (i 2).val := rfl
  unfold Ref.out Ref.oneHot mark
  change (FloatOps.uitofp (F := Ideal) .f32 (IntOp.cmpi .eq _ _) - x i + x i : EReal) = _
  rw [hp, hi, bit_number]
  rfl

/-- The kernel's flat input, read by rows, is the input's rows, -/
theorem row_flat (x : S1x25x17.Idx → Ideal .f32) (h : S1x25x17.ShapeCasts S425) {r j : ℕ} (hr : r < 25) (hj : j < 17) :
    row (shapeCast S425 x h) r j = x (cell r j) := by
  refine shapeCast_apply x h _ _ ?_
  rw [Shape.rowMajor_val_three, Shape.rowMajor_val_one]
  change (0 * 25 + r % 25) * 17 + j % 17 = (17 * r + j) % 425
  omega

/-- and its result, back in the input's order, is each row's outputs. -/
theorem kernel_at (x : S1x25x17.Idx → Ideal .f32) (h : S1x25x17.ShapeCasts S425) (h' : S425.ShapeCasts S1x25x17) (i : S1x25x17.Idx) :
    shapeCast S1x25x17 (flatOut (shapeCast S425 x h)) h' i
      = mark (place (fun j => x (cell (i 1).val j)) 16) (i 2).val (x i) := by
  have h1 : (i 1).val < 25 := (i 1).isLt
  have h2 : (i 2).val < 17 := (i 2).isLt
  have h0 : (i 0).val < 1 := (i 0).isLt
  rw [shapeCast_apply _ h' i (word (17 * (i 1).val + (i 2).val)) (by
      rw [Shape.rowMajor_val_three, Shape.rowMajor_val_one]
      change (17 * (i 1).val + (i 2).val) % 425 = ((i 0).val * 25 + (i 1).val) * 17 + (i 2).val
      omega),
    flatOut_word _ h1 h2]
  unfold rowOut
  rw [place_congr (b := fun j => x (cell (i 1).val j)) fun j hj => row_flat x h h1 (Nat.lt_succ_of_le hj), row_flat x h h1 h2, cell_val]

/-- The kernel's result is the reference's. -/
theorem kernel_eq_ref (x : S1x25x17.Idx → Ideal .f32) (h : S1x25x17.ShapeCasts S425) (h' : S425.ShapeCasts S1x25x17) :
    shapeCast S1x25x17 (flatOut (shapeCast S425 x h)) h' = Ref.out x := by
  funext i
  rw [kernel_at, ref_at]
  obtain ⟨k, hk, hp, -⟩ := place_first (fun j => x (cell (i 1).val j)) 16
  obtain ⟨l, hl, hq⟩ := Ref.pick_first x (rowOf i)
  rw [hp, hq, hk.unique hl]

end Cert.Proof

end
-- ==== Proof.lean ====
/- The kernel's certificate (`Cert.Claim`, Defs.lean). The run of the kernel is proved once, over any float values
   (Proof/Launch.lean); the kernel as compiled is the same text in another namespace, so its frame is the run at the
   machine's words. The reference's run is in Proof/Ref.lean, the equation of the two results in Proof/Equal.lean. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Ref
public import proofs.«01_k».proof.Proof.Equal
public import Idealize.ShloMosaic.Adequacy
public import Idealize.ShloMosaic.Init

@[expose] public section

noncomputable section

namespace Cert.Proof

open Idealize.ShloMosaic Idealize.SL.Sem

/-- The kernel runs, its arguments end unchanged and its semaphores at zero. -/
theorem frame_kernel : Cert.quiescent_Kernel := fun m ρ _ =>
  (θ_run Cert.KernelIdeal.defs _ _).mono (fun _ h => ⟨fun c => (h.1 c).2, h.2⟩) (run_main (F := Bits) m ρ)

/-- So does the kernel on the extended reals. -/
theorem frame_kernelIdeal : Cert.quiescent_KernelIdeal := fun m ρ _ =>
  (θ_run Cert.KernelIdeal.defs _ _).mono (fun _ h => ⟨fun c => (h.1 c).2, h.2⟩) (run_main (F := Ideal) m ρ)

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Ref.run_main (F := Ideal) m ρ)

/-- From the same arguments the kernel and the reference end with the same result. -/
theorem algebraic : Cert.algebraic_KernelIdeal_ReferenceIdeal := by
  intro m g m' g' _ hagree
  refine ⟨fun c => result m c, (θ_run Cert.KernelIdeal.defs _ _).mono (fun _ h c => h.1 c) (run_main (F := Ideal) m g), ?_⟩
  refine (θ_run Cert.ReferenceIdeal.defs _ _).mono (fun r h c => ⟨(h c).1.trans ?_, (h c).2⟩) (Ref.run_main (F := Ideal) m' g')
  rw [(hagree c).1]
  exact (kernel_eq_ref _ _ _).symm

/-- The certificate. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
